-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x256 : Shape := ⟨2, ![4096, 256]⟩
abbrev S16384x256 : Shape := ⟨2, ![16384, 256]⟩
abbrev S_ : Shape := ⟨0, ![]⟩

class Facts : Prop where
  bcast_S_S4096x256 : S_.BroadcastsInDim S4096x256 (![] : Fin 0 → Fin S4096x256.rank)
  bcast_S_S16384x256 : S_.BroadcastsInDim S16384x256 (![] : Fin 0 → Fin S16384x256.rank)

variable [Facts]

def fn {F : FTy → Type} [FloatOps F] (main_arg0 : FVec F S4096x256 .f32) (main_arg1 : FVec F S16384x256 .f32) : IVec S4096x256 1 × IVec S16384x256 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_v3 : FVec F S16384x256 .f32 := Host.absf main_arg1
  let main_cst_0 : FVec F S_ .f32 := constant S_ .f32 0x7F800000#32
  let main_v4 : FVec F S16384x256 .f32 := broadcastInDim S16384x256 ![] bcast_S_S16384x256 main_cst_0
  let main_v5 : IVec S16384x256 1 := cmpf .olt main_v3 main_v4
  (main_v2, main_v5)
-- ==== Kernel.lean ====
abbrev S4096x256 : Shape := ⟨2, ![4096, 256]⟩
abbrev S16384x256 : Shape := ⟨2, ![16384, 256]⟩
abbrev S4096x1 : Shape := ⟨2, ![4096, 1]⟩
abbrev S4096 : Shape := ⟨1, ![4096]⟩
abbrev S1024x256 : Shape := ⟨2, ![1024, 256]⟩
abbrev S4096x128 : Shape := ⟨2, ![4096, 128]⟩
abbrev S1024 : Shape := ⟨1, ![1024]⟩
abbrev S4096x1024 : Shape := ⟨2, ![4096, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S16384x256, .f32⟩
  | .hbm, ⟨2, _⟩ => ⟨S4096x1, .i32⟩
  | .hbm, ⟨3, _⟩ => ⟨S4096, .i32⟩
  | .local _ .vmem, ⟨0, _⟩ => ⟨S4096x256, .f32⟩
  | .local _ .vmem, ⟨1, _⟩ => ⟨S1024x256, .f32⟩
  | .local _ .vmem, ⟨2, _⟩ => ⟨S1024x256, .f32⟩
  | .local _ .vmem, ⟨3, _⟩ => ⟨S4096x1, .i32⟩
  | .local _ .vmem, ⟨4, _⟩ => ⟨S4096x1, .f32⟩
  | .local _ .vmem, ⟨5, _⟩ => ⟨S4096x128, .f32⟩
  | .local _ .vmem, ⟨6, _⟩ => ⟨S4096x128, .i32⟩
  | .local _ .vmem, ⟨7, _⟩ => ⟨S4096x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c5_i32_9 : BitVec 32 := 5#32
  let v24 : BitVec 1 := Scalar.cmpi .eq arg0 c5_i32_9
  let v25 : BitVec 32 := Scalar.extui v24
  let c0_i32_10 : BitVec 32 := 0#32
  let v26 : BitVec 1 := Scalar.cmpi .ne v25 c0_i32_10
  v26

def k0_cond4 (i : grid0.Coords) : BitVec 1 :=
  let arg0 : BitVec 32 := BitVec.ofNat 32 (i 0).val
  let c10_i32_11 : BitVec 32 := 10#32
  let v27 : BitVec 1 := Scalar.cmpi .eq arg0 c10_i32_11
  let v28 : BitVec 32 := Scalar.extui v27
  let c0_i32_12 : BitVec 32 := 0#32
  let v29 : BitVec 1 := Scalar.cmpi .ne v28 c0_i32_12
  v29

def k0_cond5 (i : grid0.Coords) : BitVec 1 :=
  let arg0 : BitVec 32 := BitVec.ofNat 32 (i 0).val
  let c15_i32 : BitVec 32 := 15#32
  let v30 : BitVec 1 := Scalar.cmpi .eq arg0 c15_i32
  let v31 : BitVec 32 := Scalar.extui v30
  let c0_i32_13 : BitVec 32 := 0#32
  let v32 : BitVec 1 := Scalar.cmpi .ne v31 c0_i32_13
  v32

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x256 : Shape := ⟨2, ![4096, 256]⟩
abbrev S16384x256 : Shape := ⟨2, ![16384, 256]⟩
abbrev S_ : Shape := ⟨0, ![]⟩
abbrev S4096 : Shape := ⟨1, ![4096]⟩
abbrev S4096x1 : Shape := ⟨2, ![4096, 1]⟩
abbrev S16384 : Shape := ⟨1, ![16384]⟩
abbrev S1x16384 : Shape := ⟨2, ![1, 16384]⟩
abbrev S4096x16384 : Shape := ⟨2, ![4096, 16384]⟩
abbrev S256x16384 : Shape := ⟨2, ![256, 16384]⟩

abbrev nBuf : Space → Nat
  | .hbm => 28
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S16384x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S16384x256, .f32⟩
  | .hbm, ⟨7, _⟩ => ⟨S_, .f32⟩
  | .hbm, ⟨8, _⟩ => ⟨S16384, .f32⟩
  | .hbm, ⟨9, _⟩ => ⟨S1x16384, .f32⟩
  | .hbm, ⟨10, _⟩ => ⟨S4096x16384, .f32⟩
  | .hbm, ⟨11, _⟩ => ⟨S4096x16384, .f32⟩
  | .hbm, ⟨12, _⟩ => ⟨S4096x16384, .f32⟩
  | .hbm, ⟨13, _⟩ => ⟨S256x16384, .f32⟩
  | .hbm, ⟨14, _⟩ => ⟨S4096x16384, .f32⟩
  | .hbm, ⟨15, _⟩ => ⟨S_, .f32⟩
  | .hbm, ⟨16, _⟩ => ⟨S4096x16384, .f32⟩
  | .hbm, ⟨17, _⟩ => ⟨S4096x16384, .f32⟩
  | .hbm, ⟨18, _⟩ => ⟨S4096x16384, .f32⟩
  | .hbm, ⟨19, _⟩ => ⟨S_, .f32⟩
  | .hbm, ⟨20, _⟩ => ⟨S4096x16384, .f32⟩
  | .hbm, ⟨21, _⟩ => ⟨S4096x16384, .f32⟩
  | .hbm, ⟨22, _⟩ => ⟨S4096x16384, .f32⟩
  | .hbm, ⟨23, _⟩ => ⟨S4096x16384, .i32⟩
  | .hbm, ⟨24, _⟩ => ⟨S_, .f32⟩
  | .hbm, ⟨25, _⟩ => ⟨S_, .i32⟩
  | .hbm, ⟨26, _⟩ => ⟨S4096, .f32⟩
  | .hbm, ⟨27, _⟩ => ⟨S4096, .i32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Proof.RefRun.lean ====
/-
  The run of the reference program: a straight line of array operations with no kernel. Every weakly fair execution
  ends, the arguments end unchanged, every semaphore counter ends at zero, and the result buffer holds the position of the
  least entry of each row of `dist`, the array of distances.
-/
module

public import proofs.«01_k».proof.Proof.Gen.ReferenceIdeal
public import Idealize.ShloMosaic.Lib.StableHlo.Run
public import Idealize.ShloMosaic.Lib.Claim
public import Idealize.ShloMosaic.Lib.Quiescent
public import Idealize.ShloMosaic.PureOps.Ideal
public import Idealize.ShloMosaic.Adequacy
public import Idealize.ShloMosaic.Init

@[expose] public section

noncomputable section

namespace Cert.Proof.Ref

open Cert.ReferenceIdeal Cert.ReferenceIdeal.Gen
open Idealize.ShloMosaic Idealize.ShloMosaic.TcCoe Idealize.ShloMosaic.StableHlo Idealize.SL.Sem

/-- The array of distances the reference computes: the root of the larger of zero and `Σ x² + Σ w² - 2 Σ x w`. -/
def dist (x : FVec Ideal S4096x256 .f32) (w : FVec Ideal S16384x256 .f32) : FVec Ideal S4096x16384 .f32 :=
  Host.sqrt (maximumf
    (subf
      (addf
        (broadcastInDim S4096x16384 ![0, 1] bcast_S4096x1_S4096x16384_0_1
          (broadcastInDim S4096x1 ![0] bcast_S4096_S4096x1_0
            (Host.reduceAdd (mulf x x) (constant S_ .f32 0x00000000#32) reducesTo_S4096x256_S4096_d1 h_S_)))
        (broadcastInDim S4096x16384 ![0, 1] bcast_S1x16384_S4096x16384_0_1
          (broadcastInDim S1x16384 ![1] bcast_S16384_S1x16384_1
            (Host.reduceAdd (mulf w w) (constant S_ .f32 0x00000000#32) reducesTo_S16384x256_S16384_d1 h_S_))))
      (mulf (broadcastInDim S4096x16384 ![] bcast_S_S4096x16384 (constant S_ .f32 0x40000000#32))
        (Host.dotGeneral dot_S4096x256_S256x16384_S4096x16384_1_0_0_1_n_n none x
          (transpose S256x16384 [1, 0] w transposes_S16384x256_S256x16384_1_0))))
    (broadcastInDim S4096x16384 ![] bcast_S_S4096x16384 (constant S_ .f32 0x00000000#32)))

/-- The reference's result: row by row, the position the reduction keeps beside the least distance. -/
def out (x : FVec Ideal S4096x256 .f32) (w : FVec Ideal S16384x256 .f32) : IVec S4096 32 := fun j =>
  (Host.argReduce reducer_argmin_f32_i32 (dist x w) (iotaInDim S4096x16384 32 1) (constant S_ .f32 0x7F800000#32)
    (constantI S_ 32 0#32) reducesTo_S4096x16384_S4096_d1 h_S_ j).2

/-- The reference ends with `out` of its arguments in the result buffer and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v17)
        = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  rfl

/-- The reference frame: the arguments end unchanged, and the program, which has no semaphore, ends with none raised. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (run m g)

end Cert.Proof.Ref

end
-- ==== Proof.Cases.lean ====
/-
  What one point of the kernel's grid leaves behind, case by case, as the kernel's own values of what the point before left:
  the answer's positions, its values, the lanes' values, the lanes' words, and the rows' squared lengths.
-/
module

public import proofs.«01_k».proof.Proof.Gen.KernelIdeal.Frame
public import Idealize.ShloMosaic.Lib.Pipeline.ValueKit
public import Idealize.ShloMosaic.Lib.Pipeline.ReadBack
public import Idealize.ShloMosaic.PureOps.Ideal

@[expose] public section

set_option maxRecDepth 16384

noncomputable section

namespace Cert.Proof.Cases

open Cert.KernelIdeal Cert.KernelIdeal.Gen
open Idealize.ShloMosaic Idealize.ShloMosaic.TcCoe

variable (m : (ℓ : Loc nD τ sig) → Buf (Elt Ideal) ℓ) (c : Dev nD) (t : Fin cfg0.N)

/-- What the point before `t` left. -/
abbrev prev := outsAt0 m c (t.val - 1) (Nat.lt_of_le_of_lt (Nat.sub_le _ _) t.isLt)

/-- The rows' block. -/
abbrev X : FVec Ideal S4096x256 .f32 := iblk m c 0 t
/-- The codes' block. -/
abbrev W : FVec Ideal S1024x256 .f32 := iblk m c 1 t
/-- The point's number as a word. -/
abbrev kw : BitVec 32 := BitVec.ofNat 32 (grid0.coords t 0).val

/-- The distances of the point, over the squared lengths the point before left. -/
abbrev D : FVec Ideal S4096x1024 .f32 := k0_pay78 (F := Ideal) (X m c t) (W m c t) (prev m c t).2.2.2.2

/-- The first point: everything is reset, the rows' squared lengths are computed, eight chunks are taken. -/
theorem start (h0 : t.val % 16 = 0) (h1 : ¬(t.val % 16 = 5 ∨ t.val % 16 = 10)) (h2 : ¬t.val % 16 = 5)
    (h3 : ¬t.val % 16 = 10) (h4 : ¬t.val % 16 = 15) :
    outsAt0 m c t.val t.isLt = (k0_pay77, k0_pay74 (F := Ideal),
      k0_pay84 (F := Ideal) (X m c t) (W m c t) (k0_pay73 (F := Ideal) (X m c t))
        (k0_pay19 (F := Ideal) (k0_pay78 (F := Ideal) (X m c t) (W m c t) (k0_pay73 (F := Ideal) (X m c t))) (k0_pay75 (F := Ideal))),
      k0_pay85 (F := Ideal) (grid0.coords t) (X m c t) (W m c t) (k0_pay73 (F := Ideal) (X m c t))
        (k0_pay19 (F := Ideal) (k0_pay78 (F := Ideal) (X m c t) (W m c t) (k0_pay73 (F := Ideal) (X m c t))) (k0_pay75 (F := Ideal)))
        (k0_pay20 (F := Ideal) (kw t) (k0_pay78 (F := Ideal) (X m c t) (W m c t) (k0_pay73 (F := Ideal) (X m c t))) (k0_pay75 (F := Ideal)) k0_pay76),
      k0_pay73 (F := Ideal) (X m c t)) := by
  rw [outsAt0_A m c t h0 h1 h2 h3 h4]
  refine Prod.ext ?_ (Prod.ext ?_ (Prod.ext ?_ (Prod.ext ?_ ?_))) <;> dsimp only <;> frame_out <;>
    (try simp only [read_unread_whole]) <;> rfl

/-- A point that does not merge: eight chunks are taken. -/
theorem plain (h0 : ¬t.val % 16 = 0) (h1 : ¬(t.val % 16 = 5 ∨ t.val % 16 = 10)) (h2 : ¬t.val % 16 = 5)
    (h3 : ¬t.val % 16 = 10) (h4 : ¬t.val % 16 = 15) :
    outsAt0 m c t.val t.isLt = ((prev m c t).1, (prev m c t).2.1,
      k0_pay84 (F := Ideal) (X m c t) (W m c t) (prev m c t).2.2.2.2
        (k0_pay19 (F := Ideal) (D m c t) (prev m c t).2.2.1),
      k0_pay85 (F := Ideal) (grid0.coords t) (X m c t) (W m c t) (prev m c t).2.2.2.2
        (k0_pay19 (F := Ideal) (D m c t) (prev m c t).2.2.1)
        (k0_pay20 (F := Ideal) (kw t) (D m c t) (prev m c t).2.2.1 (prev m c t).2.2.2.1),
      (prev m c t).2.2.2.2) := by
  rw [outsAt0_B m c t h0 h1 h2 h3 h4]
  refine Prod.ext rfl (Prod.ext rfl (Prod.ext ?_ (Prod.ext ?_ rfl))) <;> dsimp only <;> frame_out <;>
    (try simp only [read_unread_whole]) <;> rfl

/-- The point of the first merge: three chunks, the merge, the lanes reset, five chunks. -/
theorem first_merge (h0 : ¬t.val % 16 = 0) (h1 : ¬¬(t.val % 16 = 5 ∨ t.val % 16 = 10)) (h2 : t.val % 16 = 5)
    (h3 : ¬t.val % 16 = 10) (h4 : ¬t.val % 16 = 15) :
    outsAt0 m c t.val t.isLt =
      (k0_pay36 (F := Ideal) (k0_pay29 (F := Ideal) (D m c t) (prev m c t).2.2.1)
          (k0_pay31 (F := Ideal) (k0_pay30 (F := Ideal) (kw t) (D m c t) (prev m c t).2.2.1 (prev m c t).2.2.2.1))
          (k0_pay32 (F := Ideal) (k0_pay29 (F := Ideal) (D m c t) (prev m c t).2.2.1)) (k0_pay33 (F := Ideal) (k0_pay29 (F := Ideal) (D m c t) (prev m c t).2.2.1))
          (prev m c t).2.1 (prev m c t).1,
      k0_pay35 (F := Ideal) (k0_pay32 (F := Ideal) (k0_pay29 (F := Ideal) (D m c t) (prev m c t).2.2.1)) (prev m c t).2.1 (prev m c t).2.1,
      k0_pay97 (F := Ideal) (X m c t) (W m c t) (prev m c t).2.2.2.2 (k0_pay41 (F := Ideal) (D m c t) (k0_pay37 (F := Ideal))),
      k0_pay98 (F := Ideal) (grid0.coords t) (X m c t) (W m c t) (prev m c t).2.2.2.2 k0_pay38 (k0_pay40 (F := Ideal) (D m c t) (k0_pay37 (F := Ideal)))
        (k0_pay41 (F := Ideal) (D m c t) (k0_pay37 (F := Ideal))) (Scalar.muli (kw t) 8#32) 3#32,
      (prev m c t).2.2.2.2) := by
  rw [outsAt0_C m c t h0 h1 h2 h3 h4]
  refine Prod.ext ?_ (Prod.ext ?_ (Prod.ext ?_ (Prod.ext ?_ rfl))) <;> dsimp only <;> frame_out <;>
    (try simp only [read_unread_whole]) <;> rfl

/-- The point of the second merge: six chunks, the merge, the lanes reset, two chunks. -/
theorem second_merge (h0 : ¬t.val % 16 = 0) (h1 : ¬¬(t.val % 16 = 5 ∨ t.val % 16 = 10)) (h2 : ¬t.val % 16 = 5)
    (h3 : t.val % 16 = 10) (h4 : ¬t.val % 16 = 15) :
    outsAt0 m c t.val t.isLt =
      (k0_pay66 (F := Ideal) (k0_pay61 (F := Ideal) (k0_pay59 (F := Ideal) (D m c t) (prev m c t).2.2.1))
          (k0_pay62 (k0_pay60 (F := Ideal) (kw t) (D m c t) (prev m c t).2.2.1 (prev m c t).2.2.2.1))
          (prev m c t).2.1 (prev m c t).1,
      k0_pay65 (F := Ideal) (k0_pay61 (F := Ideal) (k0_pay59 (F := Ideal) (D m c t) (prev m c t).2.2.1)) (prev m c t).2.1 (prev m c t).2.1,
      k0_pay106 (F := Ideal) (X m c t) (W m c t) (prev m c t).2.2.2.2 (k0_pay99 (F := Ideal) (FloatOps.ofBits .f32 2139095040#32)),
      k0_pay107 (F := Ideal) (grid0.coords t) (X m c t) (W m c t) (prev m c t).2.2.2.2
        (k0_pay99 (F := Ideal) (FloatOps.ofBits .f32 2139095040#32)) k0_pay100,
      (prev m c t).2.2.2.2) := by
  rw [outsAt0_D m c t h0 h1 h2 h3 h4]
  refine Prod.ext ?_ (Prod.ext ?_ (Prod.ext ?_ (Prod.ext ?_ rfl))) <;> dsimp only <;> frame_out <;>
    (try simp only [read_unread_whole]) <;> rfl

/-- The last point: eight chunks and the merge; its answer's positions are what the kernel returns. -/
theorem finish (h0 : ¬t.val % 16 = 0) (h1 : ¬(t.val % 16 = 5 ∨ t.val % 16 = 10)) (h2 : ¬t.val % 16 = 5)
    (h3 : ¬t.val % 16 = 10) (h4 : t.val % 16 = 15) :
    (outsAt0 m c t.val t.isLt).1 =
      k0_pay70 (F := Ideal)
        (k0_pay84 (F := Ideal) (X m c t) (W m c t) (prev m c t).2.2.2.2 (k0_pay19 (F := Ideal) (D m c t) (prev m c t).2.2.1))
        (k0_pay85 (F := Ideal) (grid0.coords t) (X m c t) (W m c t) (prev m c t).2.2.2.2 (k0_pay19 (F := Ideal) (D m c t) (prev m c t).2.2.1)
          (k0_pay20 (F := Ideal) (kw t) (D m c t) (prev m c t).2.2.1 (prev m c t).2.2.2.1))
        (prev m c t).2.1 (prev m c t).1 := by
  rw [outsAt0_E m c t h0 h1 h2 h3 h4]
  dsimp only
  frame_out
  simp only [read_unread_whole]

end Cert.Proof.Cases

end
-- ==== Proof.Argmin.lean ====
/-
  The mathematics of the search, over extended reals and with no program in sight: a row of distances `d 0, d 1, …` is
  cut into 128 lanes, `128 * c + l` being entry `c` of lane `l`; each lane keeps its least distance with the entry it came
  from, and at the end of a window the lanes are merged into the row's running answer.
-/
module

public import Mathlib.Data.EReal.Basic
public import Mathlib.Data.BitVec
public import Mathlib.Data.EReal.Operations
public import Mathlib.Tactic.SplitIfs
public import Mathlib.Tactic.ByContra
public import Mathlib.Tactic.NormNum

@[expose] public section

namespace Cert.Proof.Argmin

variable {d : ℕ → EReal}

/-- What a lane holds after the entries `s, …, n - 1`: a lower bound `v` of them, and either `v = ⊤` or the word `w` of the
    first entry at which `v` is attained. -/
def Lane (d : ℕ → EReal) (s n l : ℕ) (v : EReal) (w : BitVec 32) : Prop :=
  (∀ c, s ≤ c → c < n → v ≤ d (128 * c + l)) ∧
    (v = ⊤ ∨ ∃ id, s ≤ id ∧ id < n ∧ w = BitVec.ofNat 32 id ∧ d (128 * id + l) = v ∧
      ∀ c, s ≤ c → c < id → v < d (128 * c + l))

/-- What a row's answer holds after the distances `0, …, n - 1`: a lower bound `a` of them, and either `a = ⊤` with the
    word zero, or the word `o` of the first position at which `a` is attained. -/
def Row (d : ℕ → EReal) (n : ℕ) (a : EReal) (o : BitVec 32) : Prop :=
  (∀ j, j < n → a ≤ d j) ∧
    ((a = ⊤ ∧ o = 0#32) ∨ ∃ id, id < n ∧ o = BitVec.ofNat 32 id ∧ d id = a ∧ a < ⊤ ∧ ∀ j, j < id → a < d j)

/-- A lane starts a window with `⊤` and any word. -/
theorem lane_start (s l : ℕ) (w : BitVec 32) : Lane d s s l ⊤ w :=
  ⟨fun c h h' => absurd h' (by omega), .inl rfl⟩

/-- One more entry: kept only where it is strictly below what the lane holds. -/
theorem lane_step {s n l : ℕ} {v : EReal} {w : BitVec 32} (h : Lane d s n l v w) (hs : s ≤ n) :
    Lane d s (n + 1) l (if d (128 * n + l) < v then d (128 * n + l) else v)
      (if d (128 * n + l) < v then BitVec.ofNat 32 n else w) := by
  obtain ⟨hle, hw⟩ := h
  by_cases hlt : d (128 * n + l) < v
  · simp only [hlt, if_true]
    refine ⟨fun c h1 h2 => ?_, .inr ⟨n, hs, by omega, rfl, rfl, fun c h1 h2 => lt_of_lt_of_le hlt (hle c h1 h2)⟩⟩
    rcases Nat.lt_succ_iff_lt_or_eq.mp h2 with h3 | h3
    · exact hlt.le.trans (hle c h1 h3)
    · rw [h3]
  · simp only [hlt, if_false]
    refine ⟨fun c h1 h2 => ?_, hw.imp_right ?_⟩
    · rcases Nat.lt_succ_iff_lt_or_eq.mp h2 with h3 | h3
      · exact hle c h1 h3
      · rw [h3]; exact not_lt.mp hlt
    · rintro ⟨id, h1, h2, h3⟩
      exact ⟨id, h1, by omega, h3⟩

/-- A row starts with `⊤` and the word zero. -/
theorem row_start : Row d 0 ⊤ 0#32 := ⟨fun j h => absurd h (by omega), .inl ⟨rfl, rfl⟩⟩

/-- The entry that lane `l` offers to the merge: its position in the row where it holds the least value `mv`, and otherwise
    a word above every position. -/
noncomputable def offer (mv v : EReal) (w : BitVec 32) (l : ℕ) : BitVec 32 :=
  if v = mv then w * 128#32 + BitVec.ofNat 32 l else 1073741824#32

/-- The word of a small number, read as a signed number, is that number. -/
theorem toInt_ofNat_small {n : ℕ} (h : n < 2 ^ 31) : (BitVec.ofNat 32 n).toInt = n := by
  rw [BitVec.toInt_eq_toNat_of_lt (by rw [BitVec.toNat_ofNat]; omega), BitVec.toNat_ofNat]
  omega

/-- The word of chunk `id` times 128 plus lane `l` is the word of the position. -/
theorem position_word (id l : ℕ) : BitVec.ofNat 32 id * 128#32 + BitVec.ofNat 32 l = BitVec.ofNat 32 (128 * id + l) := by
  rw [show (128#32 : BitVec 32) = BitVec.ofNat 32 128 from rfl, ← BitVec.ofNat_mul, ← BitVec.ofNat_add, Nat.mul_comm]

/-- The merge at the end of a window of entries `s, …, n - 1`: `mv` is the least value over the lanes and `K` the least
    word offered; they replace the row's answer where `mv` is strictly below it. -/
theorem merge {s n : ℕ} {a : EReal} {o : BitVec 32} (hr : Row d (128 * s) a o) (hsn : s ≤ n) (hn : n ≤ 128)
    {v : Fin 128 → EReal} {w : Fin 128 → BitVec 32} (hl : ∀ l : Fin 128, Lane d s n l (v l) (w l))
    {mv : EReal} (hmv : ∀ l, mv ≤ v l) (hmem : mv = ⊤ ∨ ∃ l, v l = mv)
    {K : BitVec 32} (hK : ∀ l : Fin 128, K.toInt ≤ (offer mv (v l) (w l) l).toInt)
    (hKmem : K = 2147483647#32 ∨ ∃ l : Fin 128, K = offer mv (v l) (w l) l) :
    Row d (128 * n) (if mv < a then mv else a) (if mv < a then K else o) := by
  have hmvd : ∀ j, 128 * s ≤ j → j < 128 * n → mv ≤ d j := by
    intro j h1 h2
    have h := (hl ⟨j % 128, Nat.mod_lt _ (by decide)⟩).1 (j / 128) (by omega) (by omega)
    rw [show 128 * (j / 128) + (⟨j % 128, Nat.mod_lt _ (by decide)⟩ : Fin 128).val = j by simp only; omega] at h
    exact (hmv _).trans h
  by_cases hlt : mv < a
  · simp only [hlt, if_true]
    have htop : mv < ⊤ := lt_of_lt_of_le hlt le_top
    -- a lane that holds the least value offers the position at which it is attained
    have hoffer : ∀ l : Fin 128, v l = mv → ∃ id, s ≤ id ∧ id < n ∧ offer mv (v l) (w l) l = BitVec.ofNat 32 (128 * id + l) ∧
        d (128 * id + l) = mv ∧ ∀ c, s ≤ c → c < id → mv < d (128 * c + l) := by
      intro l h
      rcases (hl l).2 with h1 | ⟨id, h1, h2, h3, h4, h5⟩
      · exact absurd (h.symm.trans h1) htop.ne
      · exact ⟨id, h1, h2, by rw [offer, if_pos h, h3, position_word], h4.trans h, fun c hc hc' => h ▸ h5 c hc hc'⟩
    obtain ⟨l₀, hl₀⟩ := hmem.resolve_left htop.ne
    obtain ⟨id₀, hs₀, hn₀, ho₀, hd₀, -⟩ := hoffer l₀ hl₀
    have hK₀ : K.toInt ≤ (128 * id₀ + l₀ : ℕ) := by
      have := hK l₀
      rwa [ho₀, toInt_ofNat_small (by omega)] at this
    obtain ⟨l, rfl⟩ : ∃ l : Fin 128, K = offer mv (v l) (w l) l := by
      rcases hKmem with rfl | h
      · exfalso
        have : (2147483647#32 : BitVec 32).toInt = 2147483647 := by decide
        omega
      · exact h
    have hvl : v l = mv := by
      by_contra hne
      rw [offer, if_neg hne, show (1073741824#32 : BitVec 32).toInt = 1073741824 by decide] at hK₀
      omega
    obtain ⟨id, h1, h2, h3, h4, h5⟩ := hoffer l hvl
    have hmin : ∀ l' : Fin 128, ∀ id' : ℕ, id' < n → offer mv (v l') (w l') l' = BitVec.ofNat 32 (128 * id' + l') →
        128 * id + l.val ≤ 128 * id' + l'.val := by
      intro l' id' hid' ho
      have := hK l'
      rw [h3, ho, toInt_ofNat_small (by omega), toInt_ofNat_small (by omega)] at this
      exact_mod_cast this
    refine ⟨fun j hj => ?_, .inr ⟨128 * id + l, by omega, h3, h4, htop, fun j hj => ?_⟩⟩
    · by_cases hjs : j < 128 * s
      · exact hlt.le.trans (hr.1 j hjs)
      · exact hmvd j (by omega) hj
    · by_cases hjs : j < 128 * s
      · exact lt_of_lt_of_le hlt (hr.1 j hjs)
      · have hj' : 128 * (j / 128) + j % 128 = j := by omega
        rcases (hmv ⟨j % 128, Nat.mod_lt _ (by decide)⟩).lt_or_eq with hc | hc
        · have h := (hl ⟨j % 128, Nat.mod_lt _ (by decide)⟩).1 (j / 128) (by omega) (by omega)
          rw [show 128 * (j / 128) + (⟨j % 128, Nat.mod_lt _ (by decide)⟩ : Fin 128).val = j from hj'] at h
          exact lt_of_lt_of_le hc h
        · obtain ⟨id', h1', h2', h3', h4', h5'⟩ := hoffer ⟨j % 128, Nat.mod_lt _ (by decide)⟩ hc.symm
          have hm := hmin _ id' h2' h3'
          have h := h5' (j / 128) (by omega) (by simp only at hm; omega)
          rwa [show 128 * (j / 128) + (⟨j % 128, Nat.mod_lt _ (by decide)⟩ : Fin 128).val = j from hj'] at h
  · simp only [hlt, if_false]
    refine ⟨fun j hj => ?_, hr.2.imp_right ?_⟩
    · by_cases hjs : j < 128 * s
      · exact hr.1 j hjs
      · exact (not_lt.mp hlt).trans (hmvd j (by omega) hj)
    · rintro ⟨id, h1, h2⟩
      exact ⟨id, by omega, h2⟩

/-- One more distance taken singly, as a plain scan of the row takes it: the answer is replaced unless it is below, or equal
    with a smaller position. -/
theorem row_step {n : ℕ} {a : EReal} {o : BitVec 32} (h : Row d n a o) (hn : n < 2 ^ 31) :
    Row d (n + 1) (if a < d n then a else d n)
      (if a < d n ∨ (a = d n ∧ o.toInt < (BitVec.ofNat 32 n).toInt) then o else BitVec.ofNat 32 n) := by
  obtain ⟨hle, hw⟩ := h
  rw [toInt_ofNat_small hn]
  by_cases hlt : a < d n
  · simp only [hlt, if_true, true_or]
    refine ⟨fun j hj => ?_, hw.imp_right fun ⟨id, h1, h2⟩ => ⟨id, by omega, h2⟩⟩
    rcases Nat.lt_succ_iff_lt_or_eq.mp hj with h3 | h3
    · exact hle j h3
    · rw [h3]; exact hlt.le
  · simp only [hlt, if_false, false_or]
    refine ⟨fun j hj => ?_, ?_⟩
    · rcases Nat.lt_succ_iff_lt_or_eq.mp hj with h3 | h3
      · exact (not_lt.mp hlt).trans (hle j h3)
      · rw [h3]
    · by_cases he : a = d n
      · rcases hw with ⟨ha, rfl⟩ | ⟨id, h1, h2, h3, h4, h5⟩
        · left
          refine ⟨he ▸ ha, ?_⟩
          split_ifs with hc
          · rfl
          · have h0 : (0#32 : BitVec 32).toInt = 0 := by decide
            have : n = 0 := by
              by_contra hne
              exact hc ⟨he, by rw [h0]; omega⟩
            subst this; rfl
        · right
          refine ⟨id, by omega, ?_, h3.trans he, he ▸ h4, fun j hj => he ▸ h5 j hj⟩
          rw [if_pos ⟨he, by rw [h2, toInt_ofNat_small (by omega)]; omega⟩, h2]
      · have hgt : d n < a := lt_of_le_of_ne (not_lt.mp hlt) (Ne.symm he)
        right
        refine ⟨n, by omega, by simp [he], rfl, lt_of_lt_of_le hgt le_top, fun j hj => lt_of_lt_of_le hgt (hle j hj)⟩

/-- The word of a row's answer is determined by the distances. -/
theorem row_unique {n : ℕ} {a a' : EReal} {o o' : BitVec 32} (h : Row d n a o) (h' : Row d n a' o') : o = o' := by
  obtain ⟨hle, hw⟩ := h
  obtain ⟨hle', hw'⟩ := h'
  rcases hw with ⟨ha, ho⟩ | ⟨id, h1, h2, h3, h4, h5⟩ <;> rcases hw' with ⟨ha', ho'⟩ | ⟨id', h1', h2', h3', h4', h5'⟩
  · rw [ho, ho']
  · have := hle id' h1'
    rw [h3', ha] at this
    exact absurd h4' (not_lt.mpr this)
  · have := hle' id h1
    rw [h3, ha'] at this
    exact absurd h4 (not_lt.mpr this)
  · have he : a = a' := le_antisymm (h3' ▸ hle id' h1') (h3 ▸ hle' id h1)
    subst he
    rcases Nat.lt_trichotomy id id' with hc | hc | hc
    · exact absurd h3 (h5' id hc).ne'
    · rw [h2, h2', hc]
    · exact absurd h3' (h5 id' hc).ne'

end Cert.Proof.Argmin
-- ==== Proof.Sweep.lean ====
/-
  One point of the kernel's grid compares eight chunks of 128 distances with what the lanes hold, entry by entry. Here: what
  one comparison does to every lane, and from it what each of the kernel's runs of comparisons does.
-/
module

public import proofs.«01_k».proof.Proof.Argmin
public import proofs.«01_k».proof.Proof.Gen.KernelIdeal.Skeleton
public import Idealize.ShloMosaic.Lib.Pointwise
public import Idealize.ShloMosaic.PureOps.Ideal

@[expose] public section

set_option maxRecDepth 16384

noncomputable section

namespace Cert.Proof.Sweep

open Cert.KernelIdeal Cert.KernelIdeal.Gen
open Idealize.ShloMosaic Cert.Proof.Argmin

/-- Every lane of every row holds the answer of the entries `s, …, n - 1` of its row's distances. -/
def Lanes (d : Fin 4096 → ℕ → EReal) (s n : ℕ) (v : FVec Ideal S4096x128 .f32) (w : IVec S4096x128 32) : Prop :=
  ∀ (i : Fin 4096) (l : Fin 128), Lane (d i) s n l (v (ix2 i l)) (w (ix2 i l))

/-- The 1024 distances of point `k`. -/
def Dist (d : Fin 4096 → ℕ → EReal) (k : ℕ) (D : FVec Ideal S4096x1024 .f32) : Prop :=
  ∀ (i : Fin 4096) (j : Fin 1024), D (ix2 i j) = d i (1024 * k + j)

variable {d : Fin 4096 → ℕ → EReal} {k s : ℕ}

/-- A selection on "strictly below" is an `if`. -/
theorem select_olt {α : Type} (x y : EReal) (a b : α) :
    Scalar.select (Ideal.cmp .olt x y) a b = if x < y then a else b := by
  unfold Scalar.select Ideal.cmp
  by_cases h : x < y <;> simp [h]

/-- The word of chunk `c` of point `k`. -/
theorem chunk_word (k c : ℕ) :
    Scalar.addi (Scalar.muli (BitVec.ofNat 32 k) 8#32) (BitVec.ofNat 32 c) = BitVec.ofNat 32 (8 * k + c) := by
  change BitVec.ofNat 32 k * BitVec.ofNat 32 8 + BitVec.ofNat 32 c = _
  rw [← BitVec.ofNat_mul, ← BitVec.ofNat_add, Nat.mul_comm]

/-- Chunk `c` of the point's distances, at an index. -/
theorem slice_at {D : FVec Ideal S4096x1024 .f32} (off : ℕ) (h : S4096x1024.Slices ![0, off] S4096x128)
    (hoff : off + 128 ≤ 1024) (i : Fin 4096) (l : Fin 128) :
    extractStridedSlice S4096x128 ![0, off] D h (ix2 i l) = D (ix2 i ⟨off + l, by omega⟩) := by
  unfold extractStridedSlice
  congr 1
  funext a
  match a with
  | ⟨0, _⟩ => exact Fin.ext (Nat.zero_add _)
  | ⟨1, _⟩ => exact Fin.ext rfl

/-- One chunk compared: every lane takes one more entry. -/
theorem keep {D : FVec Ideal S4096x1024 .f32} (hD : Dist d k D) (c : ℕ) {off : ℕ}
    (h : S4096x1024.Slices ![0, off] S4096x128) (hoff : off = 128 * c) (hc : c < 8) (hs : s ≤ 8 * k + c)
    {v : FVec Ideal S4096x128 .f32} {w : IVec S4096x128 32} (hv : Lanes d s (8 * k + c) v w) :
    Lanes d s (8 * k + c + 1)
      (select (cmpf .olt (extractStridedSlice S4096x128 ![0, off] D h) v) (extractStridedSlice S4096x128 ![0, off] D h) v)
      (select (cmpf .olt (extractStridedSlice S4096x128 ![0, off] D h) v)
        (broadcast S4096x128 (Scalar.addi (Scalar.muli (BitVec.ofNat 32 k) 8#32) (BitVec.ofNat 32 c))) w) := by
  intro i l
  have hd : extractStridedSlice S4096x128 ![0, off] D h (ix2 i l) = d i (128 * (8 * k + c) + l) := by
    rw [slice_at off h (by omega) i l, hD]
    congr 1
    simp only
    omega
  have key := lane_step (hv i l) hs
  rw [← hd, ← chunk_word] at key
  have e1 : select (cmpf .olt (extractStridedSlice S4096x128 ![0, off] D h) v) (extractStridedSlice S4096x128 ![0, off] D h) v
      (ix2 i l) = if extractStridedSlice S4096x128 ![0, off] D h (ix2 i l) < v (ix2 i l)
        then extractStridedSlice S4096x128 ![0, off] D h (ix2 i l) else v (ix2 i l) := select_olt _ _ _ _
  have e2 : select (cmpf .olt (extractStridedSlice S4096x128 ![0, off] D h) v)
        (broadcast S4096x128 (Scalar.addi (Scalar.muli (BitVec.ofNat 32 k) 8#32) (BitVec.ofNat 32 c))) w
      (ix2 i l) = if extractStridedSlice S4096x128 ![0, off] D h (ix2 i l) < v (ix2 i l)
        then Scalar.addi (Scalar.muli (BitVec.ofNat 32 k) 8#32) (BitVec.ofNat 32 c) else w (ix2 i l) := select_olt _ _ _ _
  rw [e1, e2]
  exact key

/-- Reading a lane array as itself changes nothing. -/
theorem cast_self {α : Type} (v : S4096x128.Idx → α) (h : S4096x128.ShapeCasts S4096x128) :
    shapeCast S4096x128 v h = v := by
  pointwise

/-- Chunks 0 to 5, as the points before the last merge take them. -/
theorem six {D : FVec Ideal S4096x1024 .f32} (hD : Dist d k D) (hs : s ≤ 8 * k)
    {v : FVec Ideal S4096x128 .f32} {w : IVec S4096x128 32} (hv : Lanes d s (8 * k) v w) :
    Lanes d s (8 * k + 6) (k0_pay19 D v) (k0_pay20 (BitVec.ofNat 32 k) D v w) := by
  have h0 : Lanes d s (8 * k + 1) (k0_pay4 D v) _ := keep hD 0 slices_S4096x1024_o0_0_S4096x128 rfl (by decide) (by omega) hv
  have h1 : Lanes d s (8 * k + 2) (k0_pay7 D v) _ := keep hD 1 slices_S4096x1024_o0_128_S4096x128 rfl (by decide) (by omega) h0
  have h2 : Lanes d s (8 * k + 3) (k0_pay10 D v) _ := keep hD 2 slices_S4096x1024_o0_256_S4096x128 rfl (by decide) (by omega) h1
  have h3 : Lanes d s (8 * k + 4) (k0_pay13 D v) _ := keep hD 3 slices_S4096x1024_o0_384_S4096x128 rfl (by decide) (by omega) h2
  have h4 : Lanes d s (8 * k + 5) (k0_pay16 D v) _ := keep hD 4 slices_S4096x1024_o0_512_S4096x128 rfl (by decide) (by omega) h3
  exact keep hD 5 slices_S4096x1024_o0_640_S4096x128 rfl (by decide) (by omega) h4

/-- Chunks 0 to 5, as the point of the second merge takes them before it merges. -/
theorem six_merge {D : FVec Ideal S4096x1024 .f32} (hD : Dist d k D) (hs : s ≤ 8 * k)
    {v : FVec Ideal S4096x128 .f32} {w : IVec S4096x128 32} (hv : Lanes d s (8 * k) v w) :
    Lanes d s (8 * k + 6) (k0_pay61 (k0_pay59 D v)) (k0_pay62 (k0_pay60 (BitVec.ofNat 32 k) D v w)) := by
  have h0 : Lanes d s (8 * k + 1) (k0_pay44 D v) _ :=
    keep hD 0 slices_S4096x1024_o0_0_S4096x128 rfl (by decide) (by omega) hv
  have h1 : Lanes d s (8 * k + 2) (k0_pay47 D v) _ :=
    keep hD 1 slices_S4096x1024_o0_128_S4096x128 rfl (by decide) (by omega) h0
  have h2 : Lanes d s (8 * k + 3) (k0_pay50 D v) _ :=
    keep hD 2 slices_S4096x1024_o0_256_S4096x128 rfl (by decide) (by omega) h1
  have h3 : Lanes d s (8 * k + 4) (k0_pay53 D v) _ :=
    keep hD 3 slices_S4096x1024_o0_384_S4096x128 rfl (by decide) (by omega) h2
  have h4 : Lanes d s (8 * k + 5) (k0_pay56 D v) _ :=
    keep hD 4 slices_S4096x1024_o0_512_S4096x128 rfl (by decide) (by omega) h3
  have h5 : Lanes d s (8 * k + 6) (k0_pay59 D v) (k0_pay60 (BitVec.ofNat 32 k) D v w) :=
    keep hD 5 slices_S4096x1024_o0_640_S4096x128 rfl (by decide) (by omega) h4
  unfold k0_pay61 k0_pay62
  simp only [cast_self]
  exact h5

/-- Chunks 0 to 2, as the point of the first merge takes them before it merges. -/
theorem three_merge {D : FVec Ideal S4096x1024 .f32} (hD : Dist d k D) (hs : s ≤ 8 * k)
    {v : FVec Ideal S4096x128 .f32} {w : IVec S4096x128 32} (hv : Lanes d s (8 * k) v w) :
    Lanes d s (8 * k + 3) (k0_pay29 D v) (k0_pay30 (BitVec.ofNat 32 k) D v w) := by
  have h0 : Lanes d s (8 * k + 1) (k0_pay23 D v) _ := keep hD 0 slices_S4096x1024_o0_0_S4096x128 rfl (by decide) (by omega) hv
  have h1 : Lanes d s (8 * k + 2) (k0_pay26 D v) _ := keep hD 1 slices_S4096x1024_o0_128_S4096x128 rfl (by decide) (by omega) h0
  have h2 := keep hD 2 slices_S4096x1024_o0_256_S4096x128 rfl (by decide) (by omega) h1
  unfold k0_pay29 k0_pay30
  simp only [cast_self]
  exact h2

variable {x : FVec Ideal S4096x256 .f32} {wt : FVec Ideal S1024x256 .f32} {x2 : FVec Ideal S4096x1 .f32}

/-- Chunks 6 and 7, as the points that do not merge and the last point take them. -/
theorem two (ic : grid0.Coords) (hD : Dist d (ic 0).val (k0_pay78 x wt x2)) (hs : s ≤ 8 * (ic 0).val + 6)
    {v : FVec Ideal S4096x128 .f32} {w : IVec S4096x128 32} (hv : Lanes d s (8 * (ic 0).val + 6) v w) :
    Lanes d s (8 * (ic 0).val + 8) (k0_pay84 x wt x2 v) (k0_pay85 ic x wt x2 v w) := by
  have h6 : Lanes d s (8 * (ic 0).val + 7) (k0_pay81 x wt x2 v) _ :=
    keep hD 6 slices_S4096x1024_o0_768_S4096x128 rfl (by decide) (by omega) hv
  have h7 := keep hD 7 slices_S4096x1024_o0_896_S4096x128 rfl (by decide) (by omega) h6
  unfold k0_pay84 k0_pay85
  simp only [cast_self]
  exact h7

/-- The whole of a point that does not merge: all eight chunks. -/
theorem eight (ic : grid0.Coords) (hD : Dist d (ic 0).val (k0_pay78 (F := Ideal) x wt x2)) (hs : s ≤ 8 * (ic 0).val)
    {v : FVec Ideal S4096x128 .f32} {w : IVec S4096x128 32} (hv : Lanes d s (8 * (ic 0).val) v w) :
    Lanes d s (8 * (ic 0).val + 8) (k0_pay84 (F := Ideal) x wt x2 (k0_pay19 (F := Ideal) (k0_pay78 (F := Ideal) x wt x2) v))
      (k0_pay85 (F := Ideal) ic x wt x2 (k0_pay19 (F := Ideal) (k0_pay78 (F := Ideal) x wt x2) v)
        (k0_pay20 (F := Ideal) (BitVec.ofNat 32 (ic 0).val) (k0_pay78 (F := Ideal) x wt x2) v w)) :=
  two ic hD (by omega) (six hD hs hv)

/-- Chunks 6 and 7, as the point of the second merge takes them after it merged. -/
theorem two_merged (ic : grid0.Coords) (hD : Dist d (ic 0).val (k0_pay78 (F := Ideal) x wt x2)) (hs : s ≤ 8 * (ic 0).val + 6)
    {v : FVec Ideal S4096x128 .f32} {w : IVec S4096x128 32} (hv : Lanes d s (8 * (ic 0).val + 6) v w) :
    Lanes d s (8 * (ic 0).val + 8) (k0_pay106 (F := Ideal) x wt x2 v) (k0_pay107 (F := Ideal) ic x wt x2 v w) := by
  have h6 : Lanes d s (8 * (ic 0).val + 7) (k0_pay103 x wt x2 v) _ :=
    keep hD 6 slices_S4096x1024_o0_768_S4096x128 rfl (by decide) (by omega) hv
  have h7 := keep hD 7 slices_S4096x1024_o0_896_S4096x128 rfl (by decide) (by omega) h6
  unfold k0_pay106 k0_pay107
  simp only [cast_self]
  exact h7

/-- Chunks 3 to 7, as the point of the first merge takes them after it merged. -/
theorem five_merged (ic : grid0.Coords) (hD : Dist d (ic 0).val (k0_pay78 (F := Ideal) x wt x2)) (hs : s ≤ 8 * (ic 0).val + 3)
    {v : FVec Ideal S4096x128 .f32} {w : IVec S4096x128 32} (hv : Lanes d s (8 * (ic 0).val + 3) v w) :
    Lanes d s (8 * (ic 0).val + 8) (k0_pay97 (F := Ideal) x wt x2 (k0_pay41 (F := Ideal) (k0_pay78 (F := Ideal) x wt x2) v))
      (k0_pay98 (F := Ideal) ic x wt x2 w (k0_pay40 (F := Ideal) (k0_pay78 (F := Ideal) x wt x2) v) (k0_pay41 (F := Ideal) (k0_pay78 (F := Ideal) x wt x2) v)
        (Scalar.muli (BitVec.ofNat 32 (ic 0).val) 8#32) 3#32) := by
  have h3 : Lanes d s (8 * (ic 0).val + 4) (k0_pay41 (F := Ideal) (k0_pay78 (F := Ideal) x wt x2) v) _ :=
    keep hD 3 slices_S4096x1024_o0_384_S4096x128 rfl (by decide) (by omega) hv
  have h4 : Lanes d s (8 * (ic 0).val + 5) (k0_pay88 x wt x2 (k0_pay41 (F := Ideal) (k0_pay78 (F := Ideal) x wt x2) v)) _ :=
    keep hD 4 slices_S4096x1024_o0_512_S4096x128 rfl (by decide) (by omega) h3
  have h5 : Lanes d s (8 * (ic 0).val + 6) (k0_pay91 x wt x2 (k0_pay41 (F := Ideal) (k0_pay78 (F := Ideal) x wt x2) v)) _ :=
    keep hD 5 slices_S4096x1024_o0_640_S4096x128 rfl (by decide) (by omega) h4
  have h6 : Lanes d s (8 * (ic 0).val + 7) (k0_pay94 x wt x2 (k0_pay41 (F := Ideal) (k0_pay78 (F := Ideal) x wt x2) v)) _ :=
    keep hD 6 slices_S4096x1024_o0_768_S4096x128 rfl (by decide) (by omega) h5
  have h7 := keep hD 7 slices_S4096x1024_o0_896_S4096x128 rfl (by decide) (by omega) h6
  unfold k0_pay97 k0_pay98
  simp only [cast_self]
  exact h7

/-- Lanes reset to `⊤` hold the answer of an empty window, whatever their words. -/
theorem lanes_start {v : FVec Ideal S4096x128 .f32} (hv : v = broadcast S4096x128 ⊤) (w : IVec S4096x128 32) (s : ℕ) :
    Lanes d s s v w := by
  subst hv
  exact fun i l => lane_start s l _

end Cert.Proof.Sweep

end
-- ==== Proof.Merge.lean ====
/-
  The merge of the lanes into the rows' running answers, which the kernel makes three times: the least value over the lanes,
  the least position among the lanes that hold it, and the comparison with what the row holds.
-/
module

public import proofs.«01_k».proof.Proof.Sweep

@[expose] public section

set_option maxRecDepth 16384

noncomputable section

namespace Cert.Proof.Merge

open Cert.KernelIdeal Cert.KernelIdeal.Gen
open Idealize.ShloMosaic Cert.Proof.Argmin Cert.Proof.Sweep

/-- Every row holds the answer of its distances `0, …, n - 1`. -/
def Rows (d : Fin 4096 → ℕ → EReal) (n : ℕ) (a : FVec Ideal S4096x1 .f32) (o : IVec S4096x1 32) : Prop :=
  ∀ i : Fin 4096, Row (d i) n (a (ix2 i 0)) (o (ix2 i 0))

/-- The word of plus infinity. -/
theorem infinity : Ideal.ofBits .f32 0x7F800000#32 = ⊤ := by simp [Ideal.ofBits, Ideal.ieee]

/-- A fold of minima from `⊤` is below every entry, and is `⊤` or one of them. -/
theorem fold_min {ι : Type} [DecidableEq ι] (f : ι → EReal) (t : Finset ι) :
    (∀ l ∈ t, t.fold min ⊤ f ≤ f l) ∧ (t.fold min ⊤ f = ⊤ ∨ ∃ l ∈ t, f l = t.fold min ⊤ f) := by
  induction t using Finset.induction_on with
  | empty => exact ⟨fun l h => absurd h (Finset.notMem_empty l), .inl rfl⟩
  | insert b t hb ih =>
    rw [Finset.fold_insert hb]
    refine ⟨fun l hl => ?_, ?_⟩
    · rcases Finset.mem_insert.mp hl with rfl | h
      · exact min_le_left _ _
      · exact (min_le_right _ _).trans (ih.1 l h)
    · rcases min_choice (f b) (t.fold min ⊤ f) with h | h
      · exact .inr ⟨b, Finset.mem_insert_self b t, h.symm⟩
      · rw [h]
        exact ih.2.imp_right fun ⟨l, hl, e⟩ => ⟨l, Finset.mem_insert_of_mem hl, e⟩

/-- A fold of signed minima is below every entry, and is the initial word or one of them. -/
theorem fold_minsi {ι : Type} [DecidableEq ι] (z : BitVec 32) (f : ι → BitVec 32) (t : Finset ι) :
    (∀ l ∈ t, (t.fold IntOp.minsi z f).toInt ≤ (f l).toInt) ∧
      (t.fold IntOp.minsi z f = z ∨ ∃ l ∈ t, t.fold IntOp.minsi z f = f l) := by
  have hle : ∀ a b : BitVec 32, (IntOp.minsi a b).toInt ≤ a.toInt ∧ (IntOp.minsi a b).toInt ≤ b.toInt ∧
      (IntOp.minsi a b = a ∨ IntOp.minsi a b = b) := by
    intro a b
    unfold IntOp.minsi
    by_cases h : a.slt b = true
    · rw [if_pos h]
      exact ⟨le_refl _, (BitVec.slt_iff_toInt_lt.mp h).le, .inl rfl⟩
    · rw [if_neg h]
      exact ⟨not_lt.mp fun h' => h (BitVec.slt_iff_toInt_lt.mpr h'), le_refl _, .inr rfl⟩
  induction t using Finset.induction_on with
  | empty => exact ⟨fun l h => absurd h (Finset.notMem_empty l), .inl rfl⟩
  | insert b t hb ih =>
    rw [Finset.fold_insert hb]
    obtain ⟨h1, h2, h3⟩ := hle (f b) (t.fold IntOp.minsi z f)
    refine ⟨fun l hl => ?_, ?_⟩
    · rcases Finset.mem_insert.mp hl with rfl | h
      · exact h1
      · exact h2.trans (ih.1 l h)
    · rcases h3 with h | h
      · exact .inr ⟨b, Finset.mem_insert_self b t, h⟩
      · rw [h]
        exact ih.2.imp_right fun ⟨l, hl, e⟩ => ⟨l, Finset.mem_insert_of_mem hl, e⟩

variable {V : FVec Ideal S4096x128 .f32} {W : IVec S4096x128 32} {A : FVec Ideal S4096x1 .f32} {O : IVec S4096x1 32}

/-- The least value over row `i`'s lanes. -/
def least (V : FVec Ideal S4096x128 .f32) (i : Fin 4096) : EReal :=
  Finset.univ.fold min ⊤ fun l : Fin 128 => V (ix2 i l)

/-- The least word offered over row `i`'s lanes. -/
def position (V : FVec Ideal S4096x128 .f32) (W : IVec S4096x128 32) (i : Fin 4096) : BitVec 32 :=
  Finset.univ.fold IntOp.minsi 2147483647#32 fun l : Fin 128 => offer (least V i) (V (ix2 i l)) (W (ix2 i l)) l

/-- Rows answered up to the window, and lanes that hold the window's answer: the merge answers the rows past the window. -/
theorem rows_merge {d : Fin 4096 → ℕ → EReal} {s n : ℕ} (hr : Rows d (128 * s) A O) (hsn : s ≤ n) (hn : n ≤ 128)
    (hl : Lanes d s n V W) {A' : FVec Ideal S4096x1 .f32} {O' : IVec S4096x1 32}
    (hA : ∀ i, A' (ix2 i 0) = if least V i < A (ix2 i 0) then least V i else A (ix2 i 0))
    (hO : ∀ i, O' (ix2 i 0) = if least V i < A (ix2 i 0) then position V W i else O (ix2 i 0)) :
    Rows d (128 * n) A' O' := by
  intro i
  rw [hA i, hO i]
  have hv := fold_min (fun l : Fin 128 => V (ix2 i l)) Finset.univ
  have hw := fold_minsi 2147483647#32 (fun l : Fin 128 => offer (least V i) (V (ix2 i l)) (W (ix2 i l)) l) Finset.univ
  exact merge (hr i) hsn hn (v := fun l => V (ix2 i l)) (w := fun l => W (ix2 i l)) (fun l => hl i l)
    (fun l => hv.1 l (Finset.mem_univ l)) (hv.2.imp_right fun ⟨l, _, e⟩ => ⟨l, e⟩)
    (fun l => hw.1 l (Finset.mem_univ l)) (hw.2.imp_right fun ⟨l, _, e⟩ => ⟨l, e⟩)

/-- Rows reset to `⊤` and zero hold the answer of no distance. -/
theorem rows_start {d : Fin 4096 → ℕ → EReal} (hA : ∀ i : Fin 4096, A (ix2 i 0) = ⊤) (hO : ∀ i : Fin 4096, O (ix2 i 0) = 0#32) :
    Rows d 0 A O := by
  intro i
  rw [hA i, hO i]
  exact row_start

/-! ## The three merges of the kernel -/

/-- The least value over the lanes, at the first merge. -/
theorem least_first (i : Fin 4096) : k0_pay32 (F := Ideal) V (ix2 i 0) = least V i := by
  unfold k0_pay32 least
  pointwise [infinity]

/-- The same at the second merge. -/
theorem least_second (i : Fin 4096) : k0_pay63 (F := Ideal) V (ix2 i 0) = least V i := by
  unfold k0_pay63 least
  pointwise [infinity]

/-- The same at the last merge. -/
theorem least_last (i : Fin 4096) : k0_pay67 (F := Ideal) V (ix2 i 0) = least V i := by
  unfold k0_pay67 least
  pointwise [infinity]

/-- The first merge. -/
theorem first {d : Fin 4096 → ℕ → EReal} {s n : ℕ} (hr : Rows d (128 * s) A O) (hsn : s ≤ n) (hn : n ≤ 128)
    (hl : Lanes d s n V W) :
    Rows d (128 * n) (k0_pay35 (F := Ideal) (k0_pay32 (F := Ideal) V) A A)
      (k0_pay36 (F := Ideal) V (k0_pay31 (F := Ideal) W) (k0_pay32 (F := Ideal) V) (k0_pay33 (F := Ideal) V) A O) := by
  refine rows_merge hr hsn hn hl (fun i => ?_) (fun i => ?_)
  · rw [← least_first]
    unfold k0_pay35 k0_pay34
    pointwise
  · unfold position offer
    rw [← least_first]
    unfold k0_pay36 k0_pay34 k0_pay33 k0_pay31
    pointwise
    rfl

/-- The second merge. -/
theorem second {d : Fin 4096 → ℕ → EReal} {s n : ℕ} (hr : Rows d (128 * s) A O) (hsn : s ≤ n) (hn : n ≤ 128)
    (hl : Lanes d s n V W) :
    Rows d (128 * n) (k0_pay65 (F := Ideal) V A A) (k0_pay66 (F := Ideal) V W A O) := by
  refine rows_merge hr hsn hn hl (fun i => ?_) (fun i => ?_)
  · rw [← least_second]
    unfold k0_pay65 k0_pay64
    pointwise
  · unfold position offer
    rw [← least_second]
    unfold k0_pay66 k0_pay64
    pointwise
    rfl

/-- The last merge. -/
theorem last {d : Fin 4096 → ℕ → EReal} {s n : ℕ} (hr : Rows d (128 * s) A O) (hsn : s ≤ n) (hn : n ≤ 128)
    (hl : Lanes d s n V W) :
    Rows d (128 * n) (k0_pay69 (F := Ideal) V A A) (k0_pay70 (F := Ideal) V W A O) := by
  refine rows_merge hr hsn hn hl (fun i => ?_) (fun i => ?_)
  · rw [← least_last]
    unfold k0_pay69 k0_pay68
    pointwise
  · unfold position offer
    rw [← least_last]
    unfold k0_pay70 k0_pay68
    pointwise
    rfl

/-! ## The resets -/

/-- The rows as the first point resets them. -/
theorem rows_reset {d : Fin 4096 → ℕ → EReal} : Rows d 0 (k0_pay74 (F := Ideal)) k0_pay77 := by
  refine rows_start (fun i => ?_) (fun i => ?_)
  · unfold k0_pay74
    pointwise [infinity]
  · rfl

/-- The lanes as the first point resets them. -/
theorem lanes_reset_start {d : Fin 4096 → ℕ → EReal} (w : IVec S4096x128 32) (s : ℕ) :
    Lanes d s s (k0_pay75 (F := Ideal)) w := by
  refine lanes_start ?_ w s
  unfold k0_pay75
  simp only [cast_self]
  exact congrArg (broadcast S4096x128) infinity

/-- The lanes as the first merge resets them. -/
theorem lanes_reset_first {d : Fin 4096 → ℕ → EReal} (w : IVec S4096x128 32) (s : ℕ) :
    Lanes d s s (k0_pay37 (F := Ideal)) w := by
  refine lanes_start ?_ w s
  unfold k0_pay37
  simp only [cast_self]
  exact congrArg (broadcast S4096x128) infinity

/-- The lanes as the second merge resets them. -/
theorem lanes_reset_second {d : Fin 4096 → ℕ → EReal} (w : IVec S4096x128 32) (s : ℕ) :
    Lanes d s s (k0_pay99 (F := Ideal) (FloatOps.ofBits .f32 2139095040#32)) w := by
  refine lanes_start ?_ w s
  unfold k0_pay99
  simp only [cast_self]
  exact congrArg (broadcast S4096x128) infinity

end Cert.Proof.Merge

end
-- ==== Proof.Points.lean ====
/-
  The kernel's grid, point by point: after point `n` the rows hold the answer of the windows merged so far and the lanes the
  answer of the window at hand; after the last point the rows hold the answer of all 16384 distances.
-/
module

public import proofs.«01_k».proof.Proof.Cases
public import proofs.«01_k».proof.Proof.Merge

@[expose] public section

set_option maxRecDepth 16384

noncomputable section

namespace Cert.Proof.Points

open Cert.KernelIdeal Cert.KernelIdeal.Gen
open Idealize.ShloMosaic Idealize.ShloMosaic.TcCoe
open Cert.Proof.Argmin Cert.Proof.Sweep Cert.Proof.Merge Cert.Proof.Cases

/-- The squared length of row `i` of an array. -/
def sq {n : ℕ} (x : FVec Ideal ⟨2, ![n, 256]⟩ .f32) (i : Fin n) : EReal := ∑ q : Fin 256, x (ix2 i q) * x (ix2 i q)

/-- The distance of row `i` and code `j` as the kernel computes it: the factor minus two is on the row's entries. -/
def far (x : FVec Ideal S4096x256 .f32) (w : FVec Ideal S16384x256 .f32) (i : Fin 4096) (j : Fin 16384) : EReal :=
  Ideal.sqrt (sq x i + sq w j + ∑ q : Fin 256, x (ix2 i q) * Ideal.ofBits .f32 0xC0000000#32 * w (ix2 j q))

/-- The same over all naturals: there is no code past the last. -/
def fars (x : FVec Ideal S4096x256 .f32) (w : FVec Ideal S16384x256 .f32) (i : Fin 4096) (j : ℕ) : EReal :=
  if h : j < 16384 then far x w i ⟨j, h⟩ else ⊤

variable (m : (ℓ : Loc nD τ sig) → Buf (Elt Ideal) ℓ) (c : Dev nD)

/-- The kernel's first argument: the rows. -/
abbrev arg0 : FVec Ideal S4096x256 .f32 := m ((c.tc : Thread nD τ).loc main_arg0)
/-- The kernel's second argument: the codes. -/
abbrev arg1 : FVec Ideal S16384x256 .f32 := m ((c.tc : Thread nD τ).loc main_arg1)

/-- The rows' block is the whole array at every point. -/
theorem index0 : ∀ t : Fin cfg0.N, win0_0.index t = ![0, 0] := by decide +kernel
/-- Point `t` reads the codes' block `t`. -/
theorem index1 : ∀ t : Fin cfg0.N, win0_1.index t = ![t.val, 0] := by decide +kernel
/-- A point's coordinate is its number. -/
theorem coord : ∀ t : Fin cfg0.N, (grid0.coords t 0).val = t.val := by decide +kernel
/-- There are sixteen points. -/
theorem lt16 (t : Fin cfg0.N) : t.val < 16 := lt_of_lt_of_eq t.isLt (show cfg0.N = 16 from N_0)

/-- Every point reads the whole first argument. -/
theorem X_at (t : Fin cfg0.N) (i : Fin 4096) (q : Fin 256) : X m c t (ix2 i q) = arg0 m c (ix2 i q) := by
  unfold X
  blk_ext [iblk, V, index0]

/-- Point `t` reads the codes `1024 t, …, 1024 t + 1023`. -/
theorem W_at (t : Fin cfg0.N) (i : Fin 1024) (q : Fin 256) (h : 1024 * t.val + i.val < 16384) :
    W m c t (ix2 i q) = arg1 m c (ix2 (⟨1024 * t.val + i.val, h⟩ : Fin 16384) q) := by
  unfold W
  blk_ext [iblk, V, index1]

/-- The squared lengths the first point computes. -/
theorem lengths (t : Fin cfg0.N) (i : Fin 4096) : k0_pay73 (F := Ideal) (X m c t) (ix2 i 0) = sq (arg0 m c) i := by
  unfold k0_pay73
  pointwise [X_at, sq]

/-- The distances a point computes, from the rows' squared lengths. -/
theorem distances (t : Fin cfg0.N) {x2 : FVec Ideal S4096x1 .f32} (h2 : ∀ i : Fin 4096, x2 (ix2 i 0) = sq (arg0 m c) i) :
    Dist (fars (arg0 m c) (arg1 m c)) (grid0.coords t 0).val (k0_pay78 (F := Ideal) (X m c t) (W m c t) x2) := by
  intro i j
  have ht := lt16 t
  have hj : 1024 * t.val + j.val < 16384 := by omega
  rw [coord, fars, dif_pos hj]
  unfold far sq k0_pay78
  pointwise [X_at, h2]
  simp only [W_at m c t j _ hj, sq]

/-- The first chunk of the window that is open after point `n`. -/
def opened (n : ℕ) : ℕ := if n < 5 then 0 else if n < 10 then 43 else 86

/-- What holds after point `n`, short of the last. -/
structure Held (n : ℕ) (O : Vec Ideal S4096x1 .i32 × Vec Ideal S4096x1 .f32 × Vec Ideal S4096x128 .f32 ×
    Vec Ideal S4096x128 .i32 × Vec Ideal S4096x1 .f32) : Prop where
  lengths : ∀ i : Fin 4096, O.2.2.2.2 (ix2 i 0) = sq (arg0 m c) i
  lanes : Lanes (fars (arg0 m c) (arg1 m c)) (opened n) (8 * n + 8) O.2.2.1 O.2.2.2.1
  rows : Rows (fars (arg0 m c) (arg1 m c)) (128 * opened n) O.2.1 O.1

/-- After the first point. -/
theorem held_start (t : Fin cfg0.N) (ht : t.val = 0) : Held m c t.val (outsAt0 m c t.val t.isLt) := by
  have e := start m c t (by omega) (by omega) (by omega) (by omega) (by omega)
  have hD := distances m c t (lengths m c t)
  have hc : 8 * (grid0.coords t 0).val = opened t.val := by rw [coord, ht]; rfl
  rw [e]
  refine ⟨lengths m c t, ?_, ?_⟩
  · have h := eight (s := opened t.val) (v := k0_pay75 (F := Ideal)) (w := k0_pay76) (grid0.coords t) hD hc.symm.le
      (by rw [hc]; exact lanes_reset_start k0_pay76 _)
    rw [coord] at h
    rw [kw, coord]
    dsimp only [D]
    exact h
  · rw [ht, show 128 * opened 0 = 0 from rfl]
    exact rows_reset

/-- A point that does not merge. -/
theorem held_plain (t : Fin cfg0.N) (h0 : t.val ≠ 0) (h5 : t.val ≠ 5) (h10 : t.val ≠ 10) (h15 : t.val ≠ 15)
    (ih : Held m c (t.val - 1) (prev m c t)) : Held m c t.val (outsAt0 m c t.val t.isLt) := by
  have ht := lt16 t
  have e := plain m c t (by omega) (by omega) (by omega) (by omega) (by omega)
  have hD := distances m c t ih.lengths
  have ho : opened (t.val - 1) = opened t.val := by unfold opened; split_ifs <;> omega
  have hle : opened t.val ≤ 8 * t.val := by unfold opened; split_ifs <;> omega
  have hl := ih.lanes
  rw [ho, show 8 * (t.val - 1) + 8 = 8 * t.val by omega] at hl
  rw [e]
  refine ⟨ih.lengths, ?_, ?_⟩
  · have h := eight (s := opened t.val) (v := (prev m c t).2.2.1) (w := (prev m c t).2.2.2.1) (grid0.coords t) hD
      (by rw [coord]; exact hle) (by rw [coord]; exact hl)
    rw [coord] at h
    rw [kw, coord]
    dsimp only [D]
    exact h
  · have hr := ih.rows
    rw [ho] at hr
    exact hr

/-- The point of the first merge. -/
theorem held_first (t : Fin cfg0.N) (h5 : t.val = 5) (ih : Held m c (t.val - 1) (prev m c t)) :
    Held m c t.val (outsAt0 m c t.val t.isLt) := by
  have e := first_merge m c t (by omega) (by omega) (by omega) (by omega) (by omega)
  have hD := distances m c t ih.lengths
  have hk := coord t
  rw [h5] at hk
  have hl := ih.lanes
  have hr := ih.rows
  rw [h5] at hl hr
  rw [e]
  refine ⟨ih.lengths, ?_, ?_⟩
  · have h := five_merged (s := 43) (grid0.coords t) hD (by omega) (v := k0_pay37 (F := Ideal)) (w := k0_pay38)
      (by rw [hk]; exact lanes_reset_first k0_pay38 43)
    rw [hk] at h
    rw [kw, hk, h5]
    dsimp only [D]
    exact h
  · have h3 := three_merge (s := 0) (v := (prev m c t).2.2.1) (w := (prev m c t).2.2.2.1) hD (by omega) (by rw [hk]; exact hl)
    rw [hk] at h3
    rw [kw, hk, h5]
    exact first hr (by decide) (by decide) h3

/-- The point of the second merge. -/
theorem held_second (t : Fin cfg0.N) (h10 : t.val = 10) (ih : Held m c (t.val - 1) (prev m c t)) :
    Held m c t.val (outsAt0 m c t.val t.isLt) := by
  have e := second_merge m c t (by omega) (by omega) (by omega) (by omega) (by omega)
  have hD := distances m c t ih.lengths
  have hk := coord t
  rw [h10] at hk
  have hl := ih.lanes
  have hr := ih.rows
  rw [h10] at hl hr
  rw [e]
  refine ⟨ih.lengths, ?_, ?_⟩
  · have h := two_merged (s := 86) (grid0.coords t) hD (by omega)
      (v := k0_pay99 (F := Ideal) (FloatOps.ofBits .f32 2139095040#32)) (w := k0_pay100)
      (by rw [hk]; exact lanes_reset_second k0_pay100 86)
    rw [hk] at h
    rw [h10]
    dsimp only [D]
    exact h
  · have h3 := six_merge (s := 43) (v := (prev m c t).2.2.1) (w := (prev m c t).2.2.2.1) hD (by omega) (by rw [hk]; exact hl)
    rw [hk] at h3
    rw [kw, hk, h10]
    exact second hr (by decide) (by decide) h3

/-- After every point short of the last. -/
theorem held : ∀ (n : ℕ) (hn : n < cfg0.N), n < 15 → Held m c n (outsAt0 m c n hn) := by
  intro n
  induction n with
  | zero => exact fun hn _ => held_start m c ⟨0, hn⟩ rfl
  | succ n ih =>
    intro hn h15
    have ih' : Held m c n (prev m c ⟨n + 1, hn⟩) := ih _ (by omega)
    by_cases h5 : n + 1 = 5
    · exact held_first m c ⟨n + 1, hn⟩ h5 ih'
    · by_cases h10 : n + 1 = 10
      · exact held_second m c ⟨n + 1, hn⟩ h10 ih'
      · exact held_plain m c ⟨n + 1, hn⟩ (Nat.succ_ne_zero n) h5 h10 (by simp only; omega) ih'

/-- After the last point the answer's positions are those of all the distances. -/
theorem answered (t : Fin cfg0.N) (h15 : t.val = 15) : ∃ a : FVec Ideal S4096x1 .f32,
    Rows (fars (arg0 m c) (arg1 m c)) 16384 a (outsAt0 m c t.val t.isLt).1 := by
  have ih : Held m c (t.val - 1) (prev m c t) := held m c _ _ (by omega)
  have e := finish m c t (by omega) (by omega) (by omega) (by omega) (by omega)
  have hD := distances m c t ih.lengths
  have hk := coord t
  rw [h15] at hk
  have hl := ih.lanes
  have hr := ih.rows
  rw [h15] at hl hr
  have h := eight (s := 86) (v := (prev m c t).2.2.1) (w := (prev m c t).2.2.2.1) (grid0.coords t) hD (by omega) (by rw [hk]; exact hl)
  rw [hk] at h
  rw [e, kw, hk]
  exact ⟨_, last hr (by decide) (by decide) h⟩

end Cert.Proof.Points

end
-- ==== Proof.Array.lean ====
/-
  What the kernel's result array holds when @main returns. The answer's block is the whole array, kept from point to
  point and copied back once, after the last point; the line after the grid then drops its last dimension of size one.
-/
module

public import proofs.«01_k».proof.Proof.Points
public import Idealize.ShloMosaic.Lib.Claim

@[expose] public section

noncomputable section

namespace Cert.Proof.Array

open Idealize.ShloMosaic Idealize.SL.Sem Cert.KernelIdeal Cert.KernelIdeal.Gen

variable (m : (ℓ : Loc nD τ sig) → Buf (Elt Ideal) ℓ)

/-- The grid's last point. -/
abbrev lastPoint : Fin cfg0.N := ⟨15, by decide⟩

/-- The launch's result array ends at what the last point leaves. -/
theorem final (c : Dev nD) : (dats m 0 c).arrAt 2 cfg0.N = (outsAt0 m c lastPoint.val lastPoint.isLt).1 := by
  refine (dats m 0 c).arrAt_eq_of_after_last 2 lastPoint (by decide +kernel) _ fun j => ?_
  blk_simp
  rw [after0_2]

/-- @main ends with the result at the launch's array, its last dimension dropped, and both arguments unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v0)
          = (shapeCast S4096 (outsAt0 m c lastPoint.val lastPoint.isLt).1 (by decide) : IVec S4096 32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m g
  unfold Pipeline.afterTail₀
  rw [List.flatten_cons, List.flatten_nil, List.append_nil]
  unfold hostOps1
  rw [StableHlo.after_cons, StableHlo.after_nil]
  after_results_loop
  have e := (Pipeline.withArrays_arr (cfgs 0).spec launch0.win.arr_inj c (V0 m c) (fun w => (dats m 0 c).arrAt w (cfgs 0).N) 2).trans
    (final m c)
  funext i
  exact congrFun (congrArg (fun a : IVec S4096x1 32 => shapeCast S4096 a (by decide)) e) i

end Cert.Proof.Array

end
-- ==== Proof.RefRow.lean ====
/-
  What the reference's reduction holds, row by row: folding a row's distances from the left, each with its position, keeps
  the first position of the least distance.
-/
module

public import proofs.«01_k».proof.Proof.RefRun
public import proofs.«01_k».proof.Proof.Argmin
public import Idealize.ShloMosaic.PureOps.Reduce
public import Idealize.ShloMosaic.PureOps.Ideal.Laws
public import Idealize.ShloMosaic.Lib.Pointwise

@[expose] public section

noncomputable section

namespace Cert.Proof.RefRow

open Cert.ReferenceIdeal Cert.ReferenceIdeal.Gen
open Idealize.ShloMosaic Cert.Proof.Argmin

/-- A property that every step of a left fold over `0, …, n - 1` hands on, holds of the whole fold. -/
theorem foldl_hands_on {α : Type} {n : ℕ} (f : α → Fin n → α) (P : ℕ → α → Prop) (a : α) (h0 : P 0 a)
    (hs : ∀ (k : Fin n) (b : α), P k.val b → P (k.val + 1) (f b k)) : P n ((List.finRange n).foldl f a) := by
  induction n with
  | zero => simpa using h0
  | succ n ih =>
    rw [List.finRange_succ_last, List.foldl_append, List.foldl_map]
    exact hs (Fin.last n) _ (ih (fun b k => f b k.castSucc) fun k b h => hs k.castSucc b h)

/-- Two increasing lists with the same members are the same list: each is the other rearranged, and both are in order. -/
theorem increasing_ext {l l' : List ℕ} (h : l.Pairwise (· < ·)) (h' : l'.Pairwise (· < ·)) (hm : ∀ v, v ∈ l ↔ v ∈ l') :
    l = l' :=
  List.Perm.eq_of_pairwise (fun _ _ _ _ hab hba => absurd hab (Nat.lt_asymm hba)) h h'
    ((List.perm_ext_iff_of_nodup (h.imp Nat.ne_of_lt) (h'.imp Nat.ne_of_lt)).mpr hm)

/-- The entries of a two-dimensional array whose first coordinate is `i`, in the order of storage: along the row. -/
theorem fiber_row {α β : Type} {n0 n1 : ℕ} (x : (⟨2, ![n0, n1]⟩ : Shape).Idx → α) (y : (⟨2, ![n0, n1]⟩ : Shape).Idx → β)
    (h : (⟨2, ![n0, n1]⟩ : Shape).ReducesTo [1] ⟨1, ![n0]⟩) (i : Fin n0) :
    Host.argReduceFiber x y h (ix1 i) = (List.finRange n1).map fun k => (x (ix2 i k), y (ix2 i k)) := by
  have hd : ∀ p : (⟨2, ![n0, n1]⟩ : Shape).Idx, h.drop p = ix1 i ↔ p 0 = i := fun p => by
    have hv : (h.drop p 0 : ℕ) = p 0 := Shape.ReducesTo.drop_apply_val h p 0
    constructor
    · intro e
      rw [e] at hv
      exact Fin.ext hv.symm
    · intro e
      rw [eq_ix1 (h.drop p)]
      exact congrArg ix1 (Fin.ext (hv.trans (congrArg Fin.val e)))
  have hkey : (List.finRange (⟨2, ![n0, n1]⟩ : Shape).numel).filter
        (fun n => h.drop ((⟨2, ![n0, n1]⟩ : Shape).rowMajor.symm n) = ix1 i)
      = (List.finRange n1).map fun k => (⟨2, ![n0, n1]⟩ : Shape).rowMajor (ix2 i k) := by
    refine List.map_injective_iff.mpr Fin.val_injective (increasing_ext ?_ ?_ fun v => ?_)
    · rw [List.pairwise_map]
      exact (List.pairwise_lt_finRange _).filter _
    · rw [List.map_map, List.pairwise_map]
      refine (List.pairwise_lt_finRange _).imp fun {k k'} hk => ?_
      simp only [Function.comp_apply, Shape.rowMajor_val_two, ix2_0, ix2_1]
      exact Nat.add_lt_add_left hk _
    · simp only [List.mem_map, List.mem_filter, List.mem_finRange, true_and, decide_eq_true_eq, hd]
      constructor
      · rintro ⟨n, hn, rfl⟩
        refine ⟨_, ⟨(⟨2, ![n0, n1]⟩ : Shape).rowMajor.symm n 1, rfl⟩, ?_⟩
        rw [← hn, ix2_eta, Equiv.apply_symm_apply]
      · rintro ⟨_, ⟨k, rfl⟩, rfl⟩
        exact ⟨_, by rw [Equiv.symm_apply_apply, ix2_0], rfl⟩
  rw [Host.argReduceFiber, hkey, List.map_map]
  refine List.map_congr_left fun k _ => ?_
  simp only [Function.comp_apply, Equiv.symm_apply_apply]

/-- One step of the reference's reduction. -/
theorem reducer (a b : Ideal .f32 × BitVec 32) :
    reducer_argmin_f32_i32 (F := Ideal) a b
      = ((if (a.1 : EReal) < b.1 then a.1 else b.1),
          if (a.1 : EReal) < b.1 ∨ ((a.1 : EReal) = b.1 ∧ a.2.toInt < b.2.toInt) then a.2 else b.2) := by
  unfold reducer_argmin_f32_i32
  simp only [Ideal.cmpf_def, Ideal.cmp, IntOp.ori, IntOp.andi, IntOp.cmpi, Scalar.select, BitVec.slt]
  by_cases h1 : (a.1 : EReal) < b.1 <;> by_cases h2 : (a.1 : EReal) = b.1 <;> by_cases h3 : a.2.toInt < b.2.toInt <;>
    simp [h1, h2, h3]

/-- The left fold of `n` distances, each with its position, from plus infinity and position zero. -/
theorem fold_row {n : ℕ} (hn : n ≤ 2 ^ 31) (d : ℕ → EReal) (e : Fin n → Ideal .f32 × BitVec 32)
    (he : ∀ k, e k = ((d k.val : Ideal .f32), BitVec.ofNat 32 k.val)) (s : Ideal .f32 × BitVec 32)
    (hs : s = ((⊤ : EReal), 0#32)) :
    Row d n ((List.finRange n).foldl (fun b k => reducer_argmin_f32_i32 (F := Ideal) b (e k)) s).1
      ((List.finRange n).foldl (fun b k => reducer_argmin_f32_i32 (F := Ideal) b (e k)) s).2 := by
  refine foldl_hands_on _ (fun n (b : Ideal .f32 × BitVec 32) => Row d n b.1 b.2) s ?_ fun k b h => ?_
  · rw [hs]
    exact row_start
  · rw [he, reducer]
    exact row_step h (lt_of_lt_of_le k.isLt hn)

/-- The distances of row `i`, over all naturals: there is no code past the last. -/
def dists (x : FVec Ideal S4096x256 .f32) (w : FVec Ideal S16384x256 .f32) (i : Fin 4096) (j : ℕ) : EReal :=
  if h : j < 16384 then Ref.dist x w (ix2 i ⟨j, h⟩) else ⊤

/-- The word of plus infinity, from which the reduction starts. -/
theorem top_word : Ideal.ofBits .f32 0x7F800000#32 = ⊤ := by simp [Ideal.ofBits, Ideal.ieee]

/-- The reduction of any two-dimensional array with the positions along its rows. -/
theorem reduced {n0 n1 : ℕ} (hn : n1 ≤ 2 ^ 31) (D : FVec Ideal ⟨2, ![n0, n1]⟩ .f32) (y : IVec ⟨2, ![n0, n1]⟩ 32)
    (d : ℕ → EReal) (i : Fin n0) (hd : ∀ k : Fin n1, d k.val = D (ix2 i k)) (hy : ∀ k : Fin n1, y (ix2 i k) = BitVec.ofNat 32 k.val)
    {u : Shape} (ix : FVec Ideal u .f32) (iy : IVec u 32) (hx0 : ∀ p, ix p = (⊤ : EReal)) (hy0 : ∀ p, iy p = 0#32)
    (h : (⟨2, ![n0, n1]⟩ : Shape).ReducesTo [1] ⟨1, ![n0]⟩) (hu : 0 < u.numel) :
    ∃ a, Row d n1 a (Host.argReduce reducer_argmin_f32_i32 D y ix iy h hu (ix1 i)).2 := by
  have hf := fold_row hn d (fun k => (D (ix2 i k), y (ix2 i k))) (fun k => Prod.ext (hd k).symm (hy k))
    (ix (Shape.Idx.first hu), iy (Shape.Idx.first hu)) (Prod.ext (hx0 _) (hy0 _))
  rw [Ideal.argReduce_eq_reduce2, Host.reduce2_eq_foldl_fiber, fiber_row, List.foldl_map]
  exact ⟨_, hf⟩

/-- The array of positions along the rows. -/
theorem position {n0 n1 : ℕ} (i : Fin n0) (k : Fin n1) :
    iotaInDim ⟨2, ![n0, n1]⟩ 32 1 (ix2 i k) = BitVec.ofNat 32 k.val := rfl

-- the reduction is compared as it stands, never computed
attribute [local irreducible] Host.argReduce

/-- The reference's result, its definition opened. -/
theorem out_eq (x : FVec Ideal S4096x256 .f32) (w : FVec Ideal S16384x256 .f32) :
    Ref.out x w = fun j => (Host.argReduce reducer_argmin_f32_i32 (Ref.dist x w) (iotaInDim S4096x16384 32 1)
      (constant S_ .f32 0x7F800000#32) (constantI S_ 32 0#32) reducesTo_S4096x16384_S4096_d1 h_S_ j).2 := rfl

/-- The reference's result is the first position of the least distance of each row. -/
theorem answered (x : FVec Ideal S4096x256 .f32) (w : FVec Ideal S16384x256 .f32) (i : Fin 4096) :
    ∃ a, Row (dists x w i) 16384 a (Ref.out x w (ix1 i)) := by
  have hd : ∀ k : Fin 16384, dists x w i k.val = Ref.dist x w (ix2 i k) := fun k => by
    unfold dists
    rw [dif_pos k.isLt]
  have hy : ∀ k : Fin 16384, iotaInDim S4096x16384 32 1 (ix2 i k) = BitVec.ofNat 32 k.val := position i
  have hn : 16384 ≤ 2 ^ 31 := by norm_num
  have h := reduced hn (Ref.dist x w) (iotaInDim S4096x16384 32 1) (dists x w i) i hd hy
    (constant S_ .f32 0x7F800000#32) (constantI S_ 32 0#32) (fun _ => top_word) (fun _ => rfl)
    reducesTo_S4096x16384_S4096_d1 h_S_
  rw [out_eq]
  exact h

end Cert.Proof.RefRow

end
-- ==== Proof.Equation.lean ====
/-
  The equation of the two distances. On finite arrays both are the root of `Σ (x - w)²`: the kernel's because the factor
  minus two moves out of its sum, the reference's because that sum of squares is not below zero.
-/
module

public import proofs.«01_k».proof.Proof.RefRow
public import proofs.«01_k».proof.Proof.Array
public import proofs.«01_k».proof.Pre_finite
public import Mathlib.Data.EReal.Operations
public import Mathlib.Tactic.NormNum
public import Mathlib.Tactic.Ring

@[expose] public section

noncomputable section

namespace Cert.Proof.Equation

open Idealize.ShloMosaic

/-- The reference's distance of row `i` and code `j`. -/
theorem dist_at (x : FVec Ideal Cert.ReferenceIdeal.S4096x256 .f32) (w : FVec Ideal Cert.ReferenceIdeal.S16384x256 .f32)
    (i : Fin 4096) (j : Fin 16384) :
    Ref.dist x w (ix2 i j) = Ideal.sqrt (max (Points.sq x i + Points.sq w j
      - Ideal.ofBits .f32 0x40000000#32 * ∑ q : Fin 256, x (ix2 i q) * w (ix2 j q)) 0) := by
  unfold Ref.dist Points.sq
  pointwise []

/-- The word of two. -/
theorem two_word : Ideal.ofBits .f32 0x40000000#32 = ((2 : ℝ) : EReal) := by
  simp [Ideal.ofBits, Ideal.ieee, -EReal.coe_mul, -EReal.coe_neg]; norm_num
/-- The word of minus two. -/
theorem neg_two_word : Ideal.ofBits .f32 0xC0000000#32 = ((-2 : ℝ) : EReal) := by
  simp [Ideal.ofBits, Ideal.ieee, -EReal.coe_mul, -EReal.coe_neg]; norm_num

/-- A sum of real numbers is the same sum among the extended reals. -/
theorem sum_real {ι : Type} [DecidableEq ι] (s : Finset ι) (f : ι → ℝ) : ∑ q ∈ s, (f q : EReal) = ((∑ q ∈ s, f q : ℝ) : EReal) := by
  induction s using Finset.induction_on with
  | empty => simp
  | insert b s hb ih => rw [Finset.sum_insert hb, Finset.sum_insert hb, ih, EReal.coe_add]

/-- The kernel's form of a squared distance, over real numbers. -/
theorem kernel_square (a b : Fin 256 → ℝ) :
    (∑ q, (a q : EReal) * a q) + (∑ q, (b q : EReal) * b q) + ∑ q, (a q : EReal) * ((-2 : ℝ) : EReal) * b q
      = ((∑ q, (a q - b q) * (a q - b q) : ℝ) : EReal) := by
  simp only [← EReal.coe_mul, sum_real, ← EReal.coe_add]
  congr 1
  rw [← Finset.sum_add_distrib, ← Finset.sum_add_distrib]
  exact Finset.sum_congr rfl fun q _ => by ring

/-- The reference's form of a squared distance, over real numbers. -/
theorem reference_square (a b : Fin 256 → ℝ) :
    (∑ q, (a q : EReal) * a q) + (∑ q, (b q : EReal) * b q) - ((2 : ℝ) : EReal) * ∑ q, (a q : EReal) * b q
      = ((∑ q, (a q - b q) * (a q - b q) : ℝ) : EReal) := by
  simp only [← EReal.coe_mul, sum_real, ← EReal.coe_add, ← EReal.coe_sub]
  congr 1
  rw [Finset.mul_sum, ← Finset.sum_add_distrib, ← Finset.sum_sub_distrib]
  exact Finset.sum_congr rfl fun q _ => by ring

/-- An entry whose absolute value is below plus infinity is a real number. -/
theorem real_of_abs_lt (v : EReal) (h : max v (-v) < ⊤) : ∃ r : ℝ, v = r := by
  induction v using EReal.rec with
  | bot => simp at h
  | top => simp at h
  | coe r => exact ⟨r, rfl⟩

/-- On finite arrays the kernel's distances are the reference's. -/
theorem far_eq_dist (x : FVec Ideal Cert.KernelIdeal.S4096x256 .f32) (w : FVec Ideal Cert.KernelIdeal.S16384x256 .f32)
    (hx : ∀ p, ∃ r : ℝ, x p = (r : EReal)) (hw : ∀ p, ∃ r : ℝ, w p = (r : EReal)) (i : Fin 4096) (j : Fin 16384) :
    Points.far x w i j = Ref.dist x w (ix2 i j) := by
  choose a ha using hx
  choose b hb using hw
  rw [dist_at, two_word]
  unfold Points.far Points.sq
  rw [neg_two_word]
  simp only [ha, hb]
  rw [kernel_square (fun q => a (ix2 i q)) fun q => b (ix2 j q), reference_square (fun q => a (ix2 i q)) fun q => b (ix2 j q)]
  rw [max_eq_left]
  exact EReal.coe_nonneg.mpr (Finset.sum_nonneg fun q _ => mul_self_nonneg _)

/-- What the precondition says of the two arrays: every entry is a real number. -/
theorem reals [Cert.Pre_finite.Facts] (x : FVec Ideal Cert.KernelIdeal.S4096x256 .f32) (w : FVec Ideal Cert.KernelIdeal.S16384x256 .f32)
    (h : (Cert.Pre_finite.fn (F := Ideal) x w).1 = (fun _ => 1#1) ∧ (Cert.Pre_finite.fn (F := Ideal) x w).2 = (fun _ => 1#1)) :
    (∀ p, ∃ r : ℝ, x p = (r : EReal)) ∧ ∀ p, ∃ r : ℝ, w p = (r : EReal) := by
  have key : ∀ v : EReal, Ideal.cmp .olt (max v (-v)) (Ideal.ofBits .f32 0x7F800000#32) = 1#1 → ∃ r : ℝ, v = r := fun v hv => by
    rw [Merge.infinity] at hv
    exact real_of_abs_lt v ((Ideal.cmp_olt_eq_one _ _).mp hv)
  exact ⟨fun p => key (x p) (congrFun h.1 p), fun p => key (w p) (congrFun h.2 p)⟩

/-- The two programs' results, entry by entry: each is the first position of the least of the same distances. -/
theorem results [Cert.Pre_finite.Facts]
    (m : (ℓ : Loc Cert.KernelIdeal.nD Cert.KernelIdeal.τ Cert.KernelIdeal.sig) → Buf (Elt Ideal) ℓ) (c : Dev Cert.KernelIdeal.nD)
    (h : (Cert.Pre_finite.fn (F := Ideal) (Points.arg0 m c) (Points.arg1 m c)).1 = (fun _ => 1#1)
      ∧ (Cert.Pre_finite.fn (F := Ideal) (Points.arg0 m c) (Points.arg1 m c)).2 = (fun _ => 1#1)) (i : Fin 4096) :
    (Cert.KernelIdeal.Gen.outsAt0 m c Array.lastPoint.val Array.lastPoint.isLt).1 (ix2 i 0)
      = Ref.out (Points.arg0 m c) (Points.arg1 m c) (ix1 i) := by
  obtain ⟨hx, hw⟩ := reals _ _ h
  obtain ⟨a, ha⟩ := Points.answered m c Array.lastPoint rfl
  obtain ⟨b, hb⟩ := RefRow.answered (Points.arg0 m c) (Points.arg1 m c) i
  have hd : Points.fars (Points.arg0 m c) (Points.arg1 m c) i = RefRow.dists (Points.arg0 m c) (Points.arg1 m c) i := by
    funext j
    unfold Points.fars RefRow.dists
    split_ifs with hj
    · exact far_eq_dist _ _ hx hw i ⟨j, hj⟩
    · rfl
  have hk := ha i
  rw [hd] at hk
  exact Argmin.row_unique hk hb

end Cert.Proof.Equation

end
-- ==== Proof.lean ====
/-
  The certificate's claims: the three programs run and leave their arguments as they were, the idealized kernel is the
  printed one read with exact operations, and on finite arrays it and the reference, so read, end with the same positions.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.RefRun
public import proofs.«01_k».proof.Proof.Array
public import proofs.«01_k».proof.Proof.Equation
public import Idealize.ShloMosaic.Lib.Claim

@[expose] public section

noncomputable section

namespace Cert.Proof

open Idealize.ShloMosaic Idealize.SL.Sem

/-- Dropping a last dimension of size one keeps every entry. -/
theorem dropped (a : IVec Cert.KernelIdeal.S4096x1 32) (h) (i : Fin 4096) :
    shapeCast Cert.KernelIdeal.S4096 a h (ix1 i) = a (ix2 i 0) := by
  pointwise []

/-- On finite arrays the idealized kernel and the idealized reference end with equal results. -/
theorem algebraic : Cert.algebraic_KernelIdeal_ReferenceIdeal_pre_finite := by
  intro m g m' g' hpre hagree
  refine ⟨_, Array.run m g, (θ_run _ _ _).mono (fun r h c => ?_) (Ref.run m' g')⟩
  obtain ⟨hr, h0, h1⟩ := h c
  refine ⟨?_, h0, h1⟩
  rw [hr, (hagree c).1, (hagree c).2]
  funext p
  obtain ⟨i, rfl⟩ : ∃ i : Fin 4096, p = ix1 i := ⟨p 0, eq_ix1 p⟩
  exact (Equation.results m c (hpre c) i).symm.trans (dropped _ _ i).symm

/-- Everything the certificate claims. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g,
    fun m g _ => Cert.KernelIdeal.Gen.frame m g,
    fun m g _ => Cert.KernelIdeal.Gen.frame m g,
    fun m g _ => Ref.frame m g,
    fun m g _ => Ref.frame m g,
    trivial,
    algebraic⟩

end Cert.Proof

end
